-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x14336 : Shape := ⟨3, ![4, 384, 14336]⟩
abbrev S4x384x1 : Shape := ⟨3, ![4, 384, 1]⟩
abbrev S14336x4096 : Shape := ⟨2, ![14336, 4096]⟩
abbrev S1x4096 : Shape := ⟨2, ![1, 4096]⟩
abbrev S4x384x4096 : Shape := ⟨3, ![4, 384, 4096]⟩
abbrev S1536x14336 : Shape := ⟨2, ![1536, 14336]⟩
abbrev S1536x1 : Shape := ⟨2, ![1536, 1]⟩
abbrev S1536x4096 : Shape := ⟨2, ![1536, 4096]⟩
abbrev S768x1024 : Shape := ⟨2, ![768, 1024]⟩
abbrev S768x1 : Shape := ⟨2, ![768, 1]⟩
abbrev S1024x4096 : Shape := ⟨2, ![1024, 4096]⟩
abbrev S768x4096 : Shape := ⟨2, ![768, 4096]⟩
abbrev S32x4096 : Shape := ⟨2, ![32, 4096]⟩
abbrev S32x1 : Shape := ⟨2, ![32, 1]⟩
abbrev S32 : Shape := ⟨1, ![32]⟩
abbrev S1x255 : Shape := ⟨2, ![1, 255]⟩
abbrev S32x255 : Shape := ⟨2, ![32, 255]⟩

abbrev nBuf : Space → Nat
  | .hbm => 10
  | .vmem => 14
  | .smem => 0
  | _ => 0

abbrev bufTy : (tb : Table) → Fin (tcTables nBuf tb) → BufTy
  | .hbm, ⟨0, _⟩ => ⟨S4x384x14336, .fp8e4m3⟩
  | .hbm, ⟨1, _⟩ => ⟨S4x384x1, .f32⟩
  | .hbm, ⟨2, _⟩ => ⟨S14336x4096, .fp8e4m3⟩
  | .hbm, ⟨3, _⟩ => ⟨S1x4096, .f32⟩
  | .hbm, ⟨4, _⟩ => ⟨S4x384x4096, .bf16⟩
  | .hbm, ⟨5, _⟩ => ⟨S1536x14336, .fp8e4m3⟩
  | .hbm, ⟨6, _⟩ => ⟨S1536x1, .f32⟩
  | .hbm, ⟨7, _⟩ => ⟨S1536x4096, .bf16⟩
  | .hbm, ⟨8, _⟩ => ⟨S1536x1, .f32⟩
  | .hbm, ⟨9, _⟩ => ⟨S1536x4096, .fp8e4m3⟩
  | .local _ .vmem, ⟨0, _⟩ => ⟨S768x1024, .fp8e4m3⟩
  | .local _ .vmem, ⟨1, _⟩ => ⟨S768x1024, .fp8e4m3⟩
  | .local _ .vmem, ⟨2, _⟩ => ⟨S768x1, .f32⟩
  | .local _ .vmem, ⟨3, _⟩ => ⟨S768x1, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x4096, .f32⟩
  | .local _ .vmem, ⟨7, _⟩ => ⟨S768x4096, .bf16⟩
  | .local _ .vmem, ⟨8, _⟩ => ⟨S768x4096, .bf16⟩
  | .local _ .vmem, ⟨9, _⟩ => ⟨S768x1, .f32⟩
  | .local _ .vmem, ⟨10, _⟩ => ⟨S768x1, .f32⟩
  | .local _ .vmem, ⟨11, _⟩ => ⟨S768x4096, .fp8e4m3⟩
  | .local _ .vmem, ⟨12, _⟩ => ⟨S768x4096, .fp8e4m3⟩
  | .local _ .vmem, ⟨13, _⟩ => ⟨S768x4096, .f32⟩
  | _, _ => ⟨S4x384x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 14], ![false, false]⟩

def k0_cond3 (i : grid0.Coords) : BitVec 1 :=
  let arg1 : BitVec 32 := BitVec.ofNat 32 (i 1).val
  let c13_i32 : BitVec 32 := 13#32
  let v10 : BitVec 1 := Scalar.cmpi .eq arg1 c13_i32
  let v11 : BitVec 32 := Scalar.extui v10
  let c0_i32_6 : BitVec 32 := 0#32
  let v12 : BitVec 1 := Scalar.cmpi .ne v11 c0_i32_6
  v12

@[reducible] def k0_t1_loop : Scf.Loop 32 :=
  let c0_i32_9 : BitVec 32 := 0#32
  let c24_i32 : BitVec 32 := 24#32
  let v14 : BitVec 32 := Scalar.addi c0_i32_9 c24_i32
  let c1_i32 : BitVec 32 := 1#32
  ⟨c0_i32_9, v14, c1_i32⟩
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c32_i32 : BitVec 32 := 32#32
  let v15 : BitVec 32 := Scalar.muli arg10 c32_i32
  let v16 : Index := Scalar.indexCast v15
  let c0_11 : Index := 0#32
  ![v16.toNat, 0]
def k0_off2 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c32_i32 : BitVec 32 := 32#32
  let v15 : BitVec 32 := Scalar.muli arg10 c32_i32
  let v18 : Index := Scalar.indexCast v15
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x384x14336 : Shape := ⟨3, ![4, 384, 14336]⟩
abbrev S4x384x1 : Shape := ⟨3, ![4, 384, 1]⟩
abbrev S14336x4096 : Shape := ⟨2, ![14336, 4096]⟩
abbrev S1x4096 : Shape := ⟨2, ![1, 4096]⟩
abbrev S4x384x4096 : Shape := ⟨3, ![4, 384, 4096]⟩
abbrev S1536x14336 : Shape := ⟨2, ![1536, 14336]⟩
abbrev S1536x1 : Shape := ⟨2, ![1536, 1]⟩
abbrev S1536x4096 : Shape := ⟨2, ![1536, 4096]⟩
abbrev S1536 : Shape := ⟨1, ![1536]⟩

abbrev nBuf : Space → Nat
  | .hbm => 10
  | .vmem => 7
  | .smem => 0
  | _ => 0

abbrev bufTy : (tb : Table) → Fin (tcTables nBuf tb) → BufTy
  | .hbm, ⟨0, _⟩ => ⟨S4x384x14336, .fp8e4m3⟩
  | .hbm, ⟨1, _⟩ => ⟨S4x384x1, .f32⟩
  | .hbm, ⟨2, _⟩ => ⟨S14336x4096, .fp8e4m3⟩
  | .hbm, ⟨3, _⟩ => ⟨S1x4096, .f32⟩
  | .hbm, ⟨4, _⟩ => ⟨S4x384x4096, .bf16⟩
  | .hbm, ⟨5, _⟩ => ⟨S1536x14336, .fp8e4m3⟩
  | .hbm, ⟨6, _⟩ => ⟨S1536x1, .f32⟩
  | .hbm, ⟨7, _⟩ => ⟨S1536x4096, .bf16⟩
  | .hbm, ⟨8, _⟩ => ⟨S1536x1, .f32⟩
  | .hbm, ⟨9, _⟩ => ⟨S1536x4096, .fp8e4m3⟩
  | .local _ .vmem, ⟨0, _⟩ => ⟨S1536x14336, .fp8e4m3⟩
  | .local _ .vmem, ⟨1, _⟩ => ⟨S1536x1, .f32⟩
  | .local _ .vmem, ⟨2, _⟩ => ⟨S14336x4096, .fp8e4m3⟩
  | .local _ .vmem, ⟨3, _⟩ => ⟨S1x4096, .f32⟩
  | .local _ .vmem, ⟨4, _⟩ => ⟨S1536x4096, .bf16⟩
  | .local _ .vmem, ⟨5, _⟩ => ⟨S1536x1, .f32⟩
  | .local _ .vmem, ⟨6, _⟩ => ⟨S1536x4096, .fp8e4m3⟩
  | _, _ => ⟨S4x384x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1536x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelCases.lean ====
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- At the first point of a row block the scratch is left holding the product of the point's two blocks. -/
theorem scratch_A (c : Dev nD) (i : grid0.Coords) (a2 : Memref sig .tc .vmem S768x1024 .fp8e4m3) (h2 : a2.IsWhole)
    (a3 : Memref sig .tc .vmem S768x1 .f32) (h3 : a3.IsWhole) (a4 : Memref sig .tc .vmem S1024x4096 .fp8e4m3) (h4 : a4.IsWhole)
    (a5 : Memref sig .tc .vmem S1x4096 .f32) (h5 : a5.IsWhole) (a6 : Memref sig .tc .vmem S768x4096 .bf16) (h6 : a6.IsWhole)
    (a7 : Memref sig .tc .vmem S768x1 .f32) (h7 : a7.IsWhole) (a8 : Memref sig .tc .vmem S768x4096 .fp8e4m3) (h8 : a8.IsWhole)
    (a9 : Memref sig .tc .vmem S768x4096 .f32) (h9 : a9.IsWhole) (hc0 : cond0_0 i) (hc1 : ¬cond0_1 i) (hc2 : ¬cond0_2 i)
    (x0 : Vec F S768x1024 .fp8e4m3) (x1 : Vec F S768x1 .f32) (x2 : Vec F S1024x4096 .fp8e4m3) (x3 : Vec F S1x4096 .f32)
    (x4 : Vec F S768x4096 .bf16) :
    sout0_A_0 c i a2 h2 a3 h3 a4 h4 a5 h5 a6 h6 a7 h7 a8 h8 a9 h9 hc0 hc1 hc2 x0 x1 x2 x3 x4 = k0_pay1 x0 x2 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_unit_zero hz]
  unfold k0_pay2
  simp only [View.readAt_eq_ld, h2.read_unread, h4.read_unread, View.ld_unit_zero (S := S768x1024) hz,
    View.ld_unit_zero (S := S1024x4096) hz, shapeCast_self]

/-- At a point in the middle of a row block the scratch is left holding what it held plus the product of the point's
    two blocks. -/
theorem scratch_B (c : Dev nD) (i : grid0.Coords) (a2 : Memref sig .tc .vmem S768x1024 .fp8e4m3) (h2 : a2.IsWhole)
    (a3 : Memref sig .tc .vmem S768x1 .f32) (h3 : a3.IsWhole) (a4 : Memref sig .tc .vmem S1024x4096 .fp8e4m3) (h4 : a4.IsWhole)
    (a5 : Memref sig .tc .vmem S1x4096 .f32) (h5 : a5.IsWhole) (a6 : Memref sig .tc .vmem S768x4096 .bf16) (h6 : a6.IsWhole)
    (a7 : Memref sig .tc .vmem S768x1 .f32) (h7 : a7.IsWhole) (a8 : Memref sig .tc .vmem S768x4096 .fp8e4m3) (h8 : a8.IsWhole)
    (a9 : Memref sig .tc .vmem S768x4096 .f32) (h9 : a9.IsWhole) (hc0 : ¬cond0_0 i) (hc1 : cond0_1 i) (hc2 : ¬cond0_2 i)
    (x0 : Vec F S768x1024 .fp8e4m3) (x1 : Vec F S768x1 .f32) (x2 : Vec F S1024x4096 .fp8e4m3) (x3 : Vec F S1x4096 .f32)
    (x4 : Vec F S768x4096 .bf16) (xs : Vec F S768x4096 .f32) :
    sout0_B_0 c i a2 h2 a3 h3 a4 h4 a5 h5 a6 h6 a7 h7 a8 h8 a9 h9 hc0 hc1 hc2 x0 x1 x2 x3 x4 xs
      = addf xs (k0_pay1 x0 x2) := by
  unfold sout0_B_0
  rw [View.read_writes_eq_canon _ _ _ (scover0_B_0 c i a2 h2 a3 h3 a4 h4 a5 h5 a6 h6 a7 h7 a8 h8 a9 h9 hc0 hc1 hc2 x0 x1 x2 x3 x4 xs)]
  unfold kernelRun0_B
  dsimp only
  sl_unfold_words
  rw [View.canon_unit_zero hz]
  unfold k0_pay3
  simp only [View.readAt_eq_ld, h2.read_unread, h4.read_unread, h9.read_unread, View.ld_unit_zero (S := S768x1024) hz,
    View.ld_unit_zero (S := S1024x4096) hz, View.ld_unit_zero (S := S768x4096) hz, shapeCast_self]

end Cert.KernelIdeal.Hand

end
-- ==== Proof.Quant.lean ====
module

public import Idealize.ShloMosaic.PureOps.Ideal
public import Idealize.ShloMosaic.Lib.Pointwise
public import Mathlib.Analysis.SpecialFunctions.Log.Basic
public import Mathlib.Analysis.SpecialFunctions.Pow.Real

@[expose] public section

/-! The scale of one row, in extended reals: the kernel's (counting which powers of two lie at or
below the row's amax over 448, and building powers of two out of exponent bits) and the
reference's (the floor of a base-two logarithm, and `exp2`) are equal, and so are the inverse scales. -/

noncomputable section

open Idealize.ShloMosaic

namespace Cert.Quant

/-! ## Powers of two as f32 words -/

/-- An f32 word's value is read by the IEEE fields. -/
theorem ofBits_f32 (w : BitVec 32) : Ideal.ofBits .f32 w = Ideal.ieee 8 23 w := rfl

/-- The value of an f32 word of sign bit `n`, exponent field `ex` (neither 0 nor 255) and mantissa field `fr`. -/
theorem ofBits_normal (w : BitVec 32) (n : Bool) (ex fr : ℕ) (hn : (w.extractLsb' (8 + 23) 1 == 1#1) = n)
    (he : (w.extractLsb' 23 8).toNat = ex) (hf : (w.extractLsb' 0 23).toNat = fr) (h0 : ex ≠ 0) (h1 : ex ≠ 255) :
    Ideal.ofBits .f32 w
      = (((if n then -1 else 1) * ((8388608 + fr : ℕ) : ℝ) * (2 : ℝ) ^ ((ex : ℤ) - 150) : ℝ) : EReal) := by
  rw [ofBits_f32]
  unfold Ideal.ieee
  rw [hn, he, hf]
  simp only
  rw [if_neg (by norm_num; exact h1), if_neg h0]
  have h2 : (2 ^ 23 + fr : ℕ) = 8388608 + fr := by norm_num
  have h3 : (ex : ℤ) - (2 ^ (8 - 1) - 1) - (23 : ℕ) = (ex : ℤ) - 150 := by norm_num; ring
  rw [h2, h3]

/-- The f32 word with exponent field `k` (1 to 254), sign 0 and mantissa 0 is `2 ^ (k - 127)`. -/
theorem ofBits_pow {k : ℕ} (h1 : 1 ≤ k) (h2 : k ≤ 254) :
    Ideal.ofBits .f32 (BitVec.ofNat 32 k <<< 23) = (((2 : ℝ) ^ ((k : ℤ) - 127) : ℝ) : EReal) := by
  have hw : ∀ k : Fin 255, ((BitVec.ofNat 32 k.val <<< 23).extractLsb' (8 + 23) 1 == 1#1) = false
      ∧ ((BitVec.ofNat 32 k.val <<< 23).extractLsb' 23 8).toNat = k.val
      ∧ ((BitVec.ofNat 32 k.val <<< 23).extractLsb' 0 23).toNat = 0 := by decide +kernel
  obtain ⟨hn, he, hf⟩ := hw ⟨k, by omega⟩
  rw [ofBits_normal _ _ _ _ hn he hf (by show k ≠ 0; omega) (by show k ≠ 255; omega)]
  have e : ((k : ℤ) - 127) = 23 + ((k : ℤ) - 150) := by ring
  rw [e, zpow_add₀ (by norm_num : (2 : ℝ) ≠ 0)]
  norm_num

/-- The word with every exponent bit set, sign 0 and mantissa 0 is `⊤`. -/
theorem ofBits_top : Ideal.ofBits .f32 (BitVec.ofNat 32 255 <<< 23) = ⊤ := by
  rw [ofBits_f32]
  unfold Ideal.ieee
  simp

/-- The word with exponent field 0, sign 0 and mantissa 0 is zero. -/
theorem ofBits_zero : Ideal.ofBits .f32 (BitVec.ofNat 32 0 <<< 23) = 0 := by
  rw [ofBits_f32]
  unfold Ideal.ieee
  simp

/-! ## The kernel's exponent and powers -/

/-- The kernel's count, as a 32-bit word: how many of the words with exponent field 1 to 255 denote
    a value at or below `v`. -/
def count (v : EReal) : BitVec 32 :=
  Finset.fold IntOp.addi (0#32) (fun x : Fin 255 =>
    if Ideal.ofBits .f32 (IntOp.shli ArithUnit.vector (IntOp.addi (BitVec.ofNat 32 x.val) 1#32) 23#32) ≤ v
    then 1#32 else 0#32) Finset.univ

/-- The kernel's exponent of `v`: zero where no power or every power is counted, else the count less 126. -/
def kExp (v : EReal) : BitVec 32 :=
  Scalar.select (IntOp.ori (IntOp.cmpi CmpIPredicate.eq (count v) 0#32) (IntOp.cmpi CmpIPredicate.eq (count v) 255#32))
    (0#32) (IntOp.subi (count v) 126#32)

/-- The kernel's power of two with exponent `e`: the word whose exponent field is `e + 127`, clipped. -/
def kPow (e : BitVec 32) : EReal :=
  Ideal.ofBits .f32 (IntOp.shli ArithUnit.vector (IntOp.minsi (255#32) (IntOp.maxsi (0#32) (IntOp.addi e 127#32))) 23#32)

/-- The value 1/448 as the programs carry it. -/
abbrev inv448 : EReal := Ideal.ofBits .f32 991054117#32

/-- The kernel's exponent of a row whose amax is `a`. -/
def kRow (a : EReal) : BitVec 32 := if a = 0 then 0#32 else kExp (a * inv448)

/-! ## The reference's exponent and powers -/

/-- The reference's exponent of `v`: one more than the floor of the base-two logarithm, and zero for a
    subnormal or infinite `v`. -/
def rExp (v : EReal) : EReal :=
  Scalar.select (IntOp.ori (BitVec.ofBool (decide (v < Ideal.ofBits .f32 8388608#32)))
      (BitVec.ofBool (decide (v = Ideal.ofBits .f32 2139095040#32))))
    0 (Ideal.liftRound Int.floor (Ideal.div (Ideal.log v) ((Real.log 2 : ℝ) : EReal)) + 1)

/-- The reference's power of two: zero below exponent -126, infinite above 127, else `exp2`. -/
def rPow (e : EReal) : EReal :=
  if e < Ideal.ofBits .f32 3271294976#32 then 0
  else if Ideal.ofBits .f32 1123942400#32 < e then Ideal.ofBits .f32 2139095040#32 else Ideal.exp2 e

/-- The reference's exponent of a row whose amax is `a`. -/
def rRow (a : EReal) : EReal := if a = 0 then 0 else rExp (a * inv448)

/-! ## The count -/

theorem fold_addi {ι : Type} [DecidableEq ι] (p : ι → Prop) [DecidablePred p] (s : Finset ι) :
    Finset.fold IntOp.addi (0#32) (fun x => if p x then 1#32 else 0#32) s = BitVec.ofNat 32 (s.filter p).card := by
  induction s using Finset.induction_on with
  | empty => simp
  | insert a s ha ih =>
    rw [Finset.fold_insert ha, ih, Finset.filter_insert]
    by_cases h : p a
    · rw [if_pos h, if_pos h, Finset.card_insert_of_notMem (by simp [ha])]
      show 1#32 + _ = _
      rw [add_comm, BitVec.ofNat_add]
    · rw [if_neg h, if_neg h]
      show 0#32 + _ = _
      rw [BitVec.zero_add]

theorem word_eq (x : Fin 255) :
    IntOp.shli ArithUnit.vector (IntOp.addi (BitVec.ofNat 32 x.val) 1#32) 23#32 = BitVec.ofNat 32 (x.val + 1) <<< 23 := by
  unfold IntOp.shli IntOp.addi
  rw [if_pos (by decide), BitVec.ofNat_add]
  rfl

/-- The count is the number of exponent fields whose power lies at or below `v`. -/
theorem count_eq (v : EReal) :
    count v = BitVec.ofNat 32
      ((Finset.univ : Finset (Fin 255)).filter
        fun x => Ideal.ofBits .f32 (BitVec.ofNat 32 (x.val + 1) <<< 23) ≤ v).card := by
  unfold count
  simp only [word_eq]
  exact fold_addi _ _

theorem card_fin_lt (n : ℕ) (hn : n ≤ 255) :
    ((Finset.univ : Finset (Fin 255)).filter fun x => x.val < n).card = n := by
  rw [Fin.card_filter_val_lt]
  omega

theorem count_top : count ⊤ = 255#32 := by
  rw [count_eq]
  simp

theorem pow_le_pow {x : Fin 255} {v : EReal} (hv : v < (((2 : ℝ) ^ (-126 : ℤ) : ℝ) : EReal)) :
    ¬ Ideal.ofBits .f32 (BitVec.ofNat 32 (x.val + 1) <<< 23) ≤ v := by
  intro h
  rcases Nat.lt_or_ge x.val 254 with hx | hx
  · rw [ofBits_pow (by omega) (by omega)] at h
    have h2 := lt_of_le_of_lt h hv
    rw [EReal.coe_lt_coe_iff, zpow_lt_zpow_iff_right₀ (by norm_num)] at h2
    push_cast at h2
    omega
  · have : x.val + 1 = 255 := by have := x.isLt; omega
    rw [this, ofBits_top] at h
    exact absurd (lt_of_le_of_lt h hv) (not_lt.mpr le_top)

/-- Below the least normal number nothing is counted. -/
theorem count_small {v : EReal} (hv : v < (((2 : ℝ) ^ (-126 : ℤ) : ℝ) : EReal)) : count v = 0#32 := by
  rw [count_eq, Finset.filter_false_of_mem (fun x _ => pow_le_pow hv)]
  rfl

/-- The floor of the base-two logarithm of a real `r`. -/
def log2 (r : ℝ) : ℤ := ⌊Real.log r * (1 / Real.log 2)⌋

/-- An integer power of two lies at or below `r > 0` exactly where its exponent is at most `log2 r`. -/
theorem zpow_le_iff {r : ℝ} (hr : 0 < r) (x : ℤ) : (2 : ℝ) ^ x ≤ r ↔ x ≤ log2 r := by
  have h2 : 0 < Real.log 2 := Real.log_pos (by norm_num)
  unfold log2
  rw [Int.le_floor, mul_one_div, le_div_iff₀ h2, ← Real.log_zpow, Real.log_le_log_iff (by positivity) hr]

/-- At a real `r` of integer base-two logarithm `l ≥ -126`, the count is `l + 127`, and at most 254. -/
theorem count_real {r : ℝ} (hr : 0 < r) (hl : -126 ≤ log2 r) :
    count (r : EReal) = BitVec.ofNat 32 (min 254 (log2 r + 127).toNat) := by
  rw [count_eq]
  congr 1
  rw [← card_fin_lt (min 254 (log2 r + 127).toNat) (by omega)]
  congr 1
  ext x
  simp only [Finset.mem_filter, Finset.mem_univ, true_and]
  rcases Nat.lt_or_ge x.val 254 with hx | hx
  · rw [ofBits_pow (by omega) (by omega), EReal.coe_le_coe_iff]
    rw [zpow_le_iff hr]
    push_cast
    omega
  · have h255 : x.val + 1 = 255 := by have := x.isLt; omega
    rw [h255, ofBits_top]
    constructor
    · intro h; exact absurd h (not_le.mpr (EReal.coe_lt_top r))
    · intro h; omega

/-! ## The two exponents -/

theorem bits_minNormal : Ideal.ofBits .f32 8388608#32 = (((2 : ℝ) ^ (-126 : ℤ) : ℝ) : EReal) := by
  have := ofBits_pow (k := 1) (by norm_num) (by norm_num)
  exact this

theorem bits_inf : Ideal.ofBits .f32 2139095040#32 = ⊤ := ofBits_top

theorem bits_127 : Ideal.ofBits .f32 1123942400#32 = ((127 : ℝ) : EReal) := by
  rw [ofBits_normal _ false 133 8257536 (by decide) (by decide) (by decide) (by decide) (by decide)]
  norm_num

theorem bits_m126 : Ideal.ofBits .f32 3271294976#32 = ((-126 : ℝ) : EReal) := by
  rw [ofBits_normal _ true 133 8126464 (by decide) (by decide) (by decide) (by decide) (by decide)]
  norm_num

/-- The kernel's exponent is a count `E` of 1 to 254 less 126; the reference's is the same integer
    where `E ≤ 253`, and at least 128 where `E = 254`. -/
def Match (ke : BitVec 32) (re : EReal) : Prop :=
  ∃ (E : ℕ) (z : ℤ), 1 ≤ E ∧ E ≤ 254 ∧ ke = BitVec.ofNat 32 E - 126#32 ∧ re = ((z : ℝ) : EReal)
    ∧ (E ≤ 253 → z = (E : ℤ) - 126) ∧ (E = 254 → 128 ≤ z)

theorem match_zero : Match 0#32 0 := ⟨126, 0, by norm_num, by norm_num, by decide, by simp, by simp, by simp⟩

theorem ori_ofBool (p q : Bool) : IntOp.ori (BitVec.ofBool p) (BitVec.ofBool q) = BitVec.ofBool (p || q) := by
  cases p <;> cases q <;> rfl

theorem select_ofBool {α : Type} (p : Bool) (a b : α) : Scalar.select (BitVec.ofBool p) a b = if p then a else b := by
  cases p <;> rfl

theorem kExp_eq (v : EReal) :
    kExp v = if count v = 0#32 ∨ count v = 255#32 then 0#32 else count v - 126#32 := by
  unfold kExp IntOp.cmpi IntOp.subi
  rw [ori_ofBool, select_ofBool]
  simp

theorem rExp_eq (v : EReal) :
    rExp v = if v < (((2 : ℝ) ^ (-126 : ℤ) : ℝ) : EReal) ∨ v = ⊤ then 0
      else Ideal.liftRound Int.floor (Ideal.div (Ideal.log v) ((Real.log 2 : ℝ) : EReal)) + 1 := by
  unfold rExp
  rw [ori_ofBool, select_ofBool, bits_minNormal, bits_inf]
  simp

/-- The kernel's exponent of any value matches the reference's. -/
theorem exp_match (v : EReal) : Match (kExp v) (rExp v) := by
  rw [kExp_eq, rExp_eq]
  by_cases hs : v < (((2 : ℝ) ^ (-126 : ℤ) : ℝ) : EReal)
  · rw [if_pos (Or.inl (count_small hs)), if_pos (Or.inl hs)]
    exact match_zero
  by_cases ht : v = ⊤
  · subst ht
    rw [if_pos (Or.inr count_top), if_pos (Or.inr rfl)]
    exact match_zero
  rw [if_neg (not_or.mpr ⟨hs, ht⟩)]
  rw [not_lt] at hs
  have hpos : (0 : ℝ) < (2 : ℝ) ^ (-126 : ℤ) := by positivity
  induction v using EReal.rec with
  | bot => exact absurd hs (not_le.mpr (EReal.bot_lt_coe _))
  | top => exact absurd rfl ht
  | coe r =>
    rw [EReal.coe_le_coe_iff] at hs
    have hr : 0 < r := lt_of_lt_of_le hpos hs
    have hl : -126 ≤ log2 r := (zpow_le_iff hr _).mp hs
    have hlog2 : Real.log 2 ≠ 0 := (Real.log_pos (by norm_num)).ne'
    have hfl : ⌊Real.log r * (1 / Real.log 2)⌋ = log2 r := rfl
    have hre : Ideal.liftRound Int.floor (Ideal.div (Ideal.log (r : EReal)) ((Real.log 2 : ℝ) : EReal)) + 1
        = (((log2 r + 1 : ℤ) : ℝ) : EReal) := by
      rw [Ideal.log_coe, if_neg (not_le.mpr hr), Ideal.div_coe hlog2, ← EReal.coe_mul, Ideal.liftRound_coe, hfl]
      push_cast
      rfl
    rw [hre, count_real hr hl]
    set n := min 254 (log2 r + 127).toNat with hn
    have hn1 : 1 ≤ n := by omega
    have hn2 : n ≤ 254 := by omega
    rw [if_neg]
    · exact ⟨n, log2 r + 1, hn1, hn2, rfl, rfl, fun h => by omega, fun h => by omega⟩
    · have h : ∀ n : Fin 255, 1 ≤ n.val → ¬ (BitVec.ofNat 32 n.val = 0#32 ∨ BitVec.ofNat 32 n.val = 255#32) := by
        decide +kernel
      exact h ⟨n, by omega⟩ hn1

/-! ## The two powers -/

theorem kPow_up {E : ℕ} (h1 : 1 ≤ E) (h2 : E ≤ 254) :
    kPow (BitVec.ofNat 32 E - 126#32) = Ideal.ofBits .f32 (BitVec.ofNat 32 (E + 1) <<< 23) := by
  have h : ∀ E : Fin 255, 1 ≤ E.val →
      IntOp.minsi (255#32) (IntOp.maxsi (0#32) (IntOp.addi (BitVec.ofNat 32 E.val - 126#32) 127#32))
        = BitVec.ofNat 32 (E.val + 1) := by decide +kernel
  unfold kPow
  rw [h ⟨E, by omega⟩ h1]
  unfold IntOp.shli
  rw [if_pos (by decide)]
  rfl

theorem kPow_down {E : ℕ} (h1 : 1 ≤ E) (h2 : E ≤ 254) :
    kPow (IntOp.subi (0#32) (BitVec.ofNat 32 E - 126#32)) = Ideal.ofBits .f32 (BitVec.ofNat 32 (253 - E) <<< 23) := by
  have h : ∀ E : Fin 255, 1 ≤ E.val →
      IntOp.minsi (255#32) (IntOp.maxsi (0#32) (IntOp.addi (IntOp.subi (0#32) (BitVec.ofNat 32 E.val - 126#32)) 127#32))
        = BitVec.ofNat 32 (253 - E.val) := by decide +kernel
  unfold kPow
  rw [h ⟨E, by omega⟩ h1]
  unfold IntOp.shli
  rw [if_pos (by decide)]
  rfl

/-- The reference's power of an integer exponent. -/
theorem rPow_int (z : ℤ) : rPow ((z : ℝ) : EReal)
    = if z < -126 then 0 else if 127 < z then ⊤ else (((2 : ℝ) ^ z : ℝ) : EReal) := by
  unfold rPow
  rw [bits_m126, bits_127, bits_inf, Ideal.exp2_coe]
  have h1 : ((z : ℝ) < -126) ↔ z < -126 := by
    rw [show (-126 : ℝ) = ((-126 : ℤ) : ℝ) by norm_num]; exact Int.cast_lt
  have h2 : ((127 : ℝ) < z) ↔ 127 < z := by
    rw [show (127 : ℝ) = ((127 : ℤ) : ℝ) by norm_num]; exact Int.cast_lt
  simp only [EReal.coe_lt_coe_iff, h1, h2]
  have h3 : Real.rpow 2 (z : ℝ) = (2 : ℝ) ^ z := Real.rpow_intCast 2 z
  rw [h3]

/-- Matching exponents give equal scales. -/
theorem scale_eq {ke : BitVec 32} {re : EReal} (h : Match ke re) : kPow ke = rPow re := by
  obtain ⟨E, z, h1, h2, rfl, rfl, hlo, hhi⟩ := h
  rw [kPow_up h1 h2, rPow_int]
  rcases Nat.lt_or_ge E 254 with hE | hE
  · have hz := hlo (by omega)
    rw [ofBits_pow (by omega) (by omega), if_neg (by omega), if_neg (by omega)]
    congr 2
    push_cast
    omega
  · have hE : E = 254 := by omega
    have hz := hhi hE
    rw [if_neg (by omega), if_pos (by omega), hE]
    exact ofBits_top

/-- Matching exponents give equal inverse scales. -/
theorem inv_eq {ke : BitVec 32} {re : EReal} (h : Match ke re) : kPow (IntOp.subi (0#32) ke) = rPow (0 - re) := by
  obtain ⟨E, z, h1, h2, rfl, rfl, hlo, hhi⟩ := h
  have hneg : (0 : EReal) - ((z : ℝ) : EReal) = (((-z : ℤ) : ℝ) : EReal) := by
    rw [zero_sub]; push_cast; rfl
  rw [kPow_down h1 h2, hneg, rPow_int]
  rcases Nat.lt_or_ge E 253 with hE | hE
  · have hz := hlo (by omega)
    rw [ofBits_pow (by omega) (by omega), if_neg (by omega), if_neg (by omega)]
    congr 2
    omega
  · have h0 : 253 - E = 0 := by omega
    rw [h0, ofBits_zero, if_pos]
    rcases Nat.lt_or_ge E 254 with hE' | hE'
    · have := hlo (by omega); omega
    · have := hhi (by omega); omega

/-- A row's exponents match. -/
theorem row_match (a : EReal) : Match (kRow a) (rRow a) := by
  unfold kRow rRow
  by_cases h : a = 0
  · rw [if_pos h, if_pos h]; exact match_zero
  · rw [if_neg h, if_neg h]; exact exp_match _

/-! ## A row's two results -/

/-- The amax of a row of 4096 values: the greatest absolute value. -/
def amax (y : Fin 4096 → EReal) : EReal :=
  Finset.fold max (Ideal.ofBits .f32 4286578688#32) (fun q => max (y q) (-(y q))) Finset.univ

/-- The kernel's scale of a row of amax `a`. -/
def kScale (a : EReal) : EReal := kPow (kRow a)

/-- The kernel's code of the value `y` in a row of amax `a`: `y` over the scale, clipped to -448 and 448. -/
def kCode (a y : EReal) : EReal :=
  min (Ideal.ofBits .f32 1138753536#32)
    (max (Ideal.ofBits .f32 3286237184#32) (y * kPow (IntOp.subi (0#32) (kRow a))))

/-- The reference's scale of a row of amax `a`. -/
def rScale (a : EReal) : EReal := rPow (rRow a)

/-- The reference's code of the value `y` in a row of amax `a`. -/
def rCode (a y : EReal) : EReal :=
  min (Ideal.ofBits .f32 1138753536#32) (max (Ideal.ofBits .f32 3286237184#32) (y * rPow (0 - rRow a)))

/-- The two scales of a row are equal. -/
theorem kScale_eq (a : EReal) : kScale a = rScale a := scale_eq (row_match a)

/-- The two codes of a value are equal. -/
theorem kCode_eq (a y : EReal) : kCode a y = rCode a y := by
  unfold kCode rCode
  rw [inv_eq (row_match a)]

end Cert.Quant

end
-- ==== Proof.KernelLast.lean ====
module

public import proofs.«01_k».proof.Proof.KernelCases
public import proofs.«01_k».proof.Proof.Quant
public import Idealize.ShloMosaic.Lib.Pointwise
public import Idealize.ShloMosaic.Lib.Pipeline.ValueKit

@[expose] public section

/-! What the last point of a row block writes back: the loop over the 24 slices of 32 rows, read at an index. -/

noncomputable section

open Idealize.ShloMosaic Idealize.ShloMosaic.TcCoe Idealize.SL.Sem

namespace Cert.KernelIdeal.Hand

open Cert.KernelIdeal Cert.KernelIdeal.Gen Cert.Quant

/-! ## One slice of 32 rows -/

/-- The slice's values before quantising. -/
theorem pay7_apply (v13 : Vec Ideal S1x4096 .f32) (A : Vec Ideal S32x4096 .f32) (X : Vec Ideal S32x1 .f32)
    (R : Vec Ideal S32x4096 .bf16) (j : S32x4096.Idx) :
    k0_pay7 v13 A X R j = A j * X (ix2 (j 0) 0) * v13 (ix2 0 (j 1)) + R j := by
  unfold k0_pay7
  pointwise

/-- The slice's amax, row by row. -/
theorem pay8_apply (v13 : Vec Ideal S1x4096 .f32) (A : Vec Ideal S32x4096 .f32) (X : Vec Ideal S32x1 .f32)
    (R : Vec Ideal S32x4096 .bf16) (j : S32x1.Idx) :
    k0_pay8 v13 A X R j = amax fun q => k0_pay7 v13 A X R (ix2 (j 0) q) := by
  unfold k0_pay8
  pointwise
  rfl

/-- The slice's exponent, row by row. -/
theorem pay9_apply (v13 : Vec Ideal S1x4096 .f32) (A : Vec Ideal S32x4096 .f32) (X : Vec Ideal S32x1 .f32)
    (R : Vec Ideal S32x4096 .bf16) (j : S32x1.Idx) :
    k0_pay9 v13 A X R j = kExp ((amax fun q => k0_pay7 v13 A X R (ix2 (j 0) q)) * inv448) := by
  unfold k0_pay9
  pointwise
  simp only [pay8_apply]
  rfl

/-- The slice's scales. -/
theorem tile5 (v13 : Vec Ideal S1x4096 .f32) (A : Vec Ideal S32x4096 .f32) (X : Vec Ideal S32x1 .f32)
    (R : Vec Ideal S32x4096 .bf16) (j : S32x1.Idx) :
    k0_pay5 (k0_pay8 v13 A X R) (k0_pay9 v13 A X R) (FloatOps.ofBits .f32 0#32) j
      = kScale (amax fun q => k0_pay7 v13 A X R (ix2 (j 0) q)) := by
  unfold k0_pay5 k0_pay4
  pointwise
  rw [pay8_apply, pay9_apply]
  rfl

/-- The slice's codes. -/
theorem tile6 (v13 : Vec Ideal S1x4096 .f32) (A : Vec Ideal S32x4096 .f32) (X : Vec Ideal S32x1 .f32)
    (R : Vec Ideal S32x4096 .bf16) (j : S32x4096.Idx) :
    k0_pay6 (k0_pay7 v13 A X R) (k0_pay8 v13 A X R) (k0_pay9 v13 A X R) (FloatOps.ofBits .f32 0#32) j
      = kCode (amax fun q => k0_pay7 v13 A X R (ix2 (j 0) q)) (k0_pay7 v13 A X R j) := by
  unfold k0_pay6 k0_pay4
  pointwise
  simp only [pay8_apply, pay9_apply]
  rfl

/-! ## The block -/

/-- The block's values before quantising, of the accumulated product `acc`, the row scales `x1`, the column scales `x3`
    and the residual `x4`. -/
def blockY (acc : S768x4096.Idx → EReal) (x1 : S768x1.Idx → EReal) (x3 : S1x4096.Idx → EReal) (x4 : S768x4096.Idx → EReal)
    (j : S768x4096.Idx) : EReal :=
  acc j * x1 (ix2 (j 0) 0) * x3 (ix2 0 (j 1)) + x4 j

/-- The block's scales. -/
def blockS (acc : S768x4096.Idx → EReal) (x1 : S768x1.Idx → EReal) (x3 : S1x4096.Idx → EReal) (x4 : S768x4096.Idx → EReal)
    (j : S768x1.Idx) : EReal :=
  kScale (amax fun q => blockY acc x1 x3 x4 (ix2 (j 0) q))

/-- The block's codes. -/
def blockC (acc : S768x4096.Idx → EReal) (x1 : S768x1.Idx → EReal) (x3 : S1x4096.Idx → EReal) (x4 : S768x4096.Idx → EReal)
    (j : S768x4096.Idx) : EReal :=
  kCode (amax fun q => blockY acc x1 x3 x4 (ix2 (j 0) q)) (blockY acc x1 x3 x4 j)

section Slice

variable (acc : Vec Ideal S768x4096 .f32) (x1 : Vec Ideal S768x1 .f32) (x3 : Vec Ideal S1x4096 .f32)
  (x4 : Vec Ideal S768x4096 .bf16) (i : grid0.Coords) (k : Fin k0_t1_loop.trips) (h : k0_cond3 i = 1#1)

/-- Slice `k` of the accumulated product. -/
abbrev sliceA : Vec Ideal S32x4096 .f32 := View.ld acc (Rect.unit (s := S768x4096) (k0_off1 k) S32x4096.size (k0_off1_inb i k h))
/-- Slice `k` of the row scales. -/
abbrev sliceX : Vec Ideal S32x1 .f32 := View.ld x1 (Rect.unit (s := S768x1) (k0_off2 k) S32x1.size (k0_off2_inb i k h))
/-- Slice `k` of the residual. -/
abbrev sliceR : Vec Ideal S32x4096 .bf16 := View.ld x4 (Rect.unit (s := S768x4096) (k0_off1 k) S32x4096.size (k0_off1_inb i k h))

theorem off1_0 : k0_off1 k 0 = 32 * k.val := congrFun (k0_off1_eq k) 0
theorem off1_1 : k0_off1 k 1 = 0 := congrFun (k0_off1_eq k) 1
theorem off2_0 : k0_off2 k 0 = 32 * k.val := congrFun (k0_off2_eq k) 0

/-- A slice's values are the block's, at any index of the block that lies at row `32 * k + j 0` and column `j 1`. -/
theorem slice_y (j : S32x4096.Idx) (y : S768x4096.Idx) (h0 : (y 0 : ℕ) = 32 * k.val + j 0) (h1 : (y 1 : ℕ) = j 1) :
    k0_pay7 x3 (sliceA acc i k h) (sliceX x1 i k h) (sliceR x4 i k h) j = blockY acc x1 x3 x4 y := by
  have ha : ∀ a, (y a : ℕ) = k0_off1 k a + j a := by
    rw [k0_off1_eq]
    intro a
    fin_cases a
    · exact h0
    · simpa using h1
  have hx : ∀ a, ((ix2 (y 0) 0 : S768x1.Idx) a : ℕ) = k0_off2 k a + (ix2 (j 0) 0 : S32x1.Idx) a := by
    rw [k0_off2_eq]
    intro a
    fin_cases a
    · exact h0
    · rfl
  have eA : sliceA acc i k h j = acc y := View.ld_unit_apply_of acc (k0_off1 k) S32x4096.size (k0_off1_inb i k h) j y ha
  have eR : sliceR x4 i k h j = x4 y := View.ld_unit_apply_of x4 (k0_off1 k) S32x4096.size (k0_off1_inb i k h) j y ha
  have eX : sliceX x1 i k h (ix2 (j 0) 0) = x1 (ix2 (y 0) 0) :=
    View.ld_unit_apply_of x1 (k0_off2 k) S32x1.size (k0_off2_inb i k h) (ix2 (j 0) 0) (ix2 (y 0) 0) hx
  have e3 : x3 (ix2 0 (j 1)) = x3 (ix2 0 (y 1)) := congrArg (fun q => x3 (ix2 0 q)) (Fin.ext h1.symm)
  rw [pay7_apply, eA, eR, eX, e3]
  rfl

/-- A slice's row has the block's row's amax. -/
theorem slice_amax (r : Fin 32) (R : Fin 768) (h0 : (R : ℕ) = 32 * k.val + r) :
    (amax fun q => k0_pay7 x3 (sliceA acc i k h) (sliceX x1 i k h) (sliceR x4 i k h) (ix2 r q))
      = amax fun q => blockY acc x1 x3 x4 (ix2 R q) :=
  congrArg amax (funext fun q => slice_y acc x1 x3 x4 i k h (ix2 r q) (ix2 R q) h0 rfl)

/-- The scales slice `k` stores are the block's, where it stores them. -/
theorem slice5 (j : S32x1.Idx) :
    k0_pay5 (k0_pay8 x3 (sliceA acc i k h) (sliceX x1 i k h) (sliceR x4 i k h))
        (k0_pay9 x3 (sliceA acc i k h) (sliceX x1 i k h) (sliceR x4 i k h)) (FloatOps.ofBits .f32 0#32) j
      = blockS acc x1 x3 x4 ((Rect.unit (s := S768x1) (k0_off2 k) S32x1.size (k0_off2_inb i k h)).emb j) := by
  rw [tile5]
  unfold blockS
  refine congrArg kScale (slice_amax acc x1 x3 x4 i k h (j 0) _ ?_)
  refine (Rect.idx_unit_val (s := S768x1) (k0_off2 k) S32x1.size (k0_off2_inb i k h) j 0).trans ?_
  rw [off2_0]

/-- The codes slice `k` stores are the block's, where it stores them. -/
theorem slice6 (j : S32x4096.Idx) :
    k0_pay6 (k0_pay7 x3 (sliceA acc i k h) (sliceX x1 i k h) (sliceR x4 i k h))
        (k0_pay8 x3 (sliceA acc i k h) (sliceX x1 i k h) (sliceR x4 i k h))
        (k0_pay9 x3 (sliceA acc i k h) (sliceX x1 i k h) (sliceR x4 i k h)) (FloatOps.ofBits .f32 0#32) j
      = blockC acc x1 x3 x4 ((Rect.unit (s := S768x4096) (k0_off1 k) S32x4096.size (k0_off1_inb i k h)).emb j) := by
  rw [tile6]
  have h0 : (((Rect.unit (s := S768x4096) (k0_off1 k) S32x4096.size (k0_off1_inb i k h)).emb j) 0 : ℕ) = 32 * k.val + j 0 := by
    refine (Rect.idx_unit_val (s := S768x4096) (k0_off1 k) S32x4096.size (k0_off1_inb i k h) j 0).trans ?_
    rw [off1_0]
  have h1 : (((Rect.unit (s := S768x4096) (k0_off1 k) S32x4096.size (k0_off1_inb i k h)).emb j) 1 : ℕ) = j 1 := by
    refine (Rect.idx_unit_val (s := S768x4096) (k0_off1 k) S32x4096.size (k0_off1_inb i k h) j 1).trans ?_
    rw [off1_1, Nat.zero_add]
  unfold blockC
  rw [slice_amax acc x1 x3 x4 i k h (j 0) _ h0, slice_y acc x1 x3 x4 i k h j _ h0 h1]

end Slice

/-! ## The loop's pieces -/

section Loop

variable (𝒱 : Variants) (bd : Option 𝒱.V) (c : Dev nD) (i : grid0.Coords) (a2 : Memref sig .tc .vmem S768x1024 .fp8e4m3) (h2 : a2.IsWhole)
    (a3 : Memref sig .tc .vmem S768x1 .f32) (h3 : a3.IsWhole) (a4 : Memref sig .tc .vmem S1024x4096 .fp8e4m3) (h4 : a4.IsWhole)
    (a5 : Memref sig .tc .vmem S1x4096 .f32) (h5 : a5.IsWhole) (a6 : Memref sig .tc .vmem S768x4096 .bf16) (h6 : a6.IsWhole)
    (a7 : Memref sig .tc .vmem S768x1 .f32) (h7 : a7.IsWhole) (a8 : Memref sig .tc .vmem S768x4096 .fp8e4m3) (h8 : a8.IsWhole)
    (a9 : Memref sig .tc .vmem S768x4096 .f32) (h9 : a9.IsWhole)
    (hc : k0_cond3 i = 1#1)
    (v13 : Vec Ideal S1x4096 .f32) (X3 : BufTy.Contents (Elt Ideal) a3.view.ty) (X6 : BufTy.Contents (Elt Ideal) a6.view.ty)
    (X9 : BufTy.Contents (Elt Ideal) a9.view.ty)

/-- Every piece the trips before `n` store restricts the block's scales, or the block's codes. -/
theorem pieces (n : ℕ) (hn : n ≤ k0_t1_loop.trips) :
    (∀ p ∈ (pb_k0_t1 𝒱 c bd i a2 h2 a3 h3 a4 h4 a5 h5 a6 h6 a7 h7 a8 h8 a9 h9 hc v13 X3 X6 X9 n).1, ∀ x,
        p.2 x = blockS (a9.view.read (Elt Ideal) X9) (a3.view.read (Elt Ideal) X3) v13 (a6.view.read (Elt Ideal) X6) (p.1.emb x))
    ∧ (∀ p ∈ (pb_k0_t1 𝒱 c bd i a2 h2 a3 h3 a4 h4 a5 h5 a6 h6 a7 h7 a8 h8 a9 h9 hc v13 X3 X6 X9 n).2, ∀ x,
        p.2 x = blockC (a9.view.read (Elt Ideal) X9) (a3.view.read (Elt Ideal) X3) v13 (a6.view.read (Elt Ideal) X6) (p.1.emb x)) := by
  induction n with
  | zero => exact ⟨fun p hp => absurd hp (by simp [pb_k0_t1]), fun p hp => absurd hp (by simp [pb_k0_t1])⟩
  | succ n ih =>
    obtain ⟨ih5, ih6⟩ := ih (by omega)
    have e := pb_k0_t1_succ 𝒱 c bd i a2 h2 a3 h3 a4 h4 a5 h5 a6 h6 a7 h7 a8 h8 a9 h9 hc v13 X3 X6 X9 ⟨n, hn⟩
    have e' := e
    unfold tripL_k0_t1 trip_k0_t1 at e'
    dsimp only at e'
    rw [e']
    constructor
    · intro p hp
      rcases List.mem_append.mp hp with hp | hp
      · rw [List.mem_singleton] at hp
        subst hp
        intro x
        exact slice5 _ _ _ _ i ⟨n, hn⟩ hc x
      · exact ih5 p hp
    · intro p hp
      rcases List.mem_append.mp hp with hp | hp
      · rw [List.mem_singleton] at hp
        subst hp
        intro x
        exact slice6 _ _ _ _ i ⟨n, hn⟩ hc x
      · exact ih6 p hp

end Loop

/-! ## What the last point leaves -/

section Out

variable (c : Dev nD) (i : grid0.Coords) (a2 : Memref sig .tc .vmem S768x1024 .fp8e4m3) (h2 : a2.IsWhole)
    (a3 : Memref sig .tc .vmem S768x1 .f32) (h3 : a3.IsWhole) (a4 : Memref sig .tc .vmem S1024x4096 .fp8e4m3) (h4 : a4.IsWhole)
    (a5 : Memref sig .tc .vmem S1x4096 .f32) (h5 : a5.IsWhole) (a6 : Memref sig .tc .vmem S768x4096 .bf16) (h6 : a6.IsWhole)
    (a7 : Memref sig .tc .vmem S768x1 .f32) (h7 : a7.IsWhole) (a8 : Memref sig .tc .vmem S768x4096 .fp8e4m3) (h8 : a8.IsWhole)
    (a9 : Memref sig .tc .vmem S768x4096 .f32) (h9 : a9.IsWhole)
    (hc0 : ¬cond0_0 i) (hc1 : cond0_1 i) (hc2 : cond0_2 i)
    (x0 : Vec Ideal S768x1024 .fp8e4m3) (x1 : Vec Ideal S768x1 .f32) (x2 : Vec Ideal S1024x4096 .fp8e4m3) (x3 : Vec Ideal S1x4096 .f32)
    (x4 : Vec Ideal S768x4096 .bf16) (xs : Vec Ideal S768x4096 .f32)

/-- The last point's scratch as the loop reads it: what it held plus the product of the point's two blocks. -/
theorem scratch_C :
    a9.view.read (Elt Ideal) (a9.view.writes (Elt Ideal) a9.view.junk (kernelRun0_C.sl.HS0_1 c a2 h2 a4 h4 a9 h9 x0 x2 xs))
      = addf xs (k0_pay1 x0 x2) := by
  sl_unfold_words
  rw [View.read_writes_eq_canon _ _ _ (fun y => ⟨_, List.mem_singleton_self _, View.mem_set_unit_zero hz inb_S768x4096_S768x4096_0_0 y⟩)]
  rw [View.canon_unit_zero hz]
  unfold k0_pay3
  simp only [View.readAt_eq_ld, h2.read_unread, h4.read_unread, h9.read_unread, View.ld_unit_zero (S := S768x1024) hz,
    View.ld_unit_zero (S := S1024x4096) hz, View.ld_unit_zero (S := S768x4096) hz, shapeCast_self]

/-- The scales the last point of a row block leaves. -/
theorem out_C_5 :
    out0_C_5 c i a2 h2 a3 h3 a4 h4 a5 h5 a6 h6 a7 h7 a8 h8 a9 h9 hc0 hc1 hc2 x0 x1 x2 x3 x4 xs
      = blockS (addf xs (k0_pay1 x0 x2)) x1 x3 x4 := by
  funext y
  unfold out0_C_5
  rw [View.read_writes_eq_canon _ _ _ (cover0_C_5 c i a2 h2 a3 h3 a4 h4 a5 h5 a6 h6 a7 h7 a8 h8 a9 h9 hc0 hc1 hc2 x0 x1 x2 x3 x4 xs)]
  refine View.canon_apply_of_pieces _ _ ?_ y
    (cover0_C_5 c i a2 h2 a3 h3 a4 h4 a5 h5 a6 h6 a7 h7 a8 h8 a9 h9 hc0 hc1 hc2 x0 x1 x2 x3 x4 xs y)
  unfold kernelRun0_C
  dsimp only
  have hp := (pieces Variants.none none c i a2 h2 a3 h3 a4 h4 a5 h5 a6 h6 a7 h7 a8 h8 a9 h9 hc2
    (View.readAt (Elt Ideal) a5.view (Rect.unit (s := S1x4096) ![0, 0] S1x4096.size inb_S1x4096_S1x4096_0_0).toLoadRect (h5.unread x3))
    (h3.unread x1) (h6.unread x4)
    (a9.view.writes (Elt Ideal) a9.view.junk (kernelRun0_C.sl.HS0_1 c a2 h2 a4 h4 a9 h9 x0 x2 xs)) k0_t1_loop.trips le_rfl).1
  rw [scratch_C, h3.read_unread, h6.read_unread] at hp
  rw [show blockS (addf xs (k0_pay1 x0 x2)) x1 x3 x4 = blockS (addf xs (k0_pay1 x0 x2)) x1
    (View.readAt (Elt Ideal) a5.view (Rect.unit (s := S1x4096) ![0, 0] S1x4096.size inb_S1x4096_S1x4096_0_0).toLoadRect (h5.unread x3)) x4
    by rw [View.readAt_eq_ld, h5.read_unread, View.ld_unit_zero (S := S1x4096) hz]]
  exact hp

/-- The codes the last point of a row block leaves. -/
theorem out_C_6 :
    out0_C_6 c i a2 h2 a3 h3 a4 h4 a5 h5 a6 h6 a7 h7 a8 h8 a9 h9 hc0 hc1 hc2 x0 x1 x2 x3 x4 xs
      = blockC (addf xs (k0_pay1 x0 x2)) x1 x3 x4 := by
  funext y
  unfold out0_C_6
  rw [View.read_writes_eq_canon _ _ _ (cover0_C_6 c i a2 h2 a3 h3 a4 h4 a5 h5 a6 h6 a7 h7 a8 h8 a9 h9 hc0 hc1 hc2 x0 x1 x2 x3 x4 xs)]
  refine View.canon_apply_of_pieces _ _ ?_ y
    (cover0_C_6 c i a2 h2 a3 h3 a4 h4 a5 h5 a6 h6 a7 h7 a8 h8 a9 h9 hc0 hc1 hc2 x0 x1 x2 x3 x4 xs y)
  unfold kernelRun0_C
  dsimp only
  have hp := (pieces Variants.none none c i a2 h2 a3 h3 a4 h4 a5 h5 a6 h6 a7 h7 a8 h8 a9 h9 hc2
    (View.readAt (Elt Ideal) a5.view (Rect.unit (s := S1x4096) ![0, 0] S1x4096.size inb_S1x4096_S1x4096_0_0).toLoadRect (h5.unread x3))
    (h3.unread x1) (h6.unread x4)
    (a9.view.writes (Elt Ideal) a9.view.junk (kernelRun0_C.sl.HS0_1 c a2 h2 a4 h4 a9 h9 x0 x2 xs)) k0_t1_loop.trips le_rfl).2
  rw [scratch_C, h3.read_unread, h6.read_unread] at hp
  rw [show blockC (addf xs (k0_pay1 x0 x2)) x1 x3 x4 = blockC (addf xs (k0_pay1 x0 x2)) x1
    (View.readAt (Elt Ideal) a5.view (Rect.unit (s := S1x4096) ![0, 0] S1x4096.size inb_S1x4096_S1x4096_0_0).toLoadRect (h5.unread x3)) x4
    by rw [View.readAt_eq_ld, h5.read_unread, View.ld_unit_zero (S := S1x4096) hz]]
  exact hp

end Out

end Cert.KernelIdeal.Hand

end
-- ==== Proof.KernelValue.lean ====
module

public import proofs.«01_k».proof.Proof.KernelLast
public import Idealize.ShloMosaic.Lib.Claim

@[expose] public section

/-! What the kernel's two arrays hold at the end: the blocks the windows read, the carried sum of block products, and the
two results index by index. -/

noncomputable section

open Idealize.ShloMosaic Idealize.ShloMosaic.TcCoe Idealize.SL.Sem

namespace Cert.KernelIdeal.Hand

open Cert.KernelIdeal Cert.KernelIdeal.Gen Cert.KernelIdeal.Value Cert.Quant

variable (m : (ℓ : Loc nD τ sig) → Buf (Elt Ideal) ℓ) (c : Dev nD)

theorem lt_28 (t : Fin cfg0.N) : t.val < 28 := lt_of_lt_of_eq t.isLt N_0

/-! ## The arrays -/

/-- The activations, 1536 rows of 14336. -/
def arrX : S1536x14336.Idx → EReal := shapeCast S1536x14336 (m ((c : Thread nD τ).loc main_arg0)) shapeCasts_S4x384x14336_S1536x14336
/-- The row scales. -/
def arrXs : S1536x1.Idx → EReal := shapeCast S1536x1 (m ((c : Thread nD τ).loc main_arg1)) shapeCasts_S4x384x1_S1536x1
/-- The weights, 14336 rows of 4096. -/
def arrW : S14336x4096.Idx → EReal := m ((c : Thread nD τ).loc main_arg2)
/-- The column scales. -/
def arrWs : S1x4096.Idx → EReal := m ((c : Thread nD τ).loc main_arg3)
/-- The residual. -/
def arrR : S1536x4096.Idx → EReal := shapeCast S1536x4096 (m ((c : Thread nD τ).loc main_arg4)) shapeCasts_S4x384x4096_S1536x4096

theorem V0 : V m c main_v0 = arrX m c := by entry_read; rfl
theorem V1 : V m c main_v1 = arrXs m c := by entry_read; rfl
theorem V2 : V m c main_arg2 = arrW m c := by entry_read; rfl
theorem V3 : V m c main_arg3 = arrWs m c := by entry_read; rfl
theorem V4 : V m c main_v2 = arrR m c := by entry_read; rfl

/-! ## The blocks -/

theorem idx : ∀ t : Fin cfg0.N, win0_0.index t = ![t.val / 14, t.val % 14] ∧ win0_1.index t = ![t.val / 14, 0]
    ∧ win0_2.index t = ![t.val % 14, 0] ∧ win0_3.index t = ![0, 0] ∧ win0_4.index t = ![t.val / 14, 0] :=
  (by decide +kernel : ∀ t : Fin grid0.N, _)

/-- Row `r` of row block `t / 14`. -/
def rowOf (t : Fin cfg0.N) (r : Fin 768) : Fin 1536 := ⟨768 * (t.val / 14) + r.val, by have := lt_28 t; omega⟩
/-- Element `k` of contraction block `t % 14`. -/
def conOf (t : Fin cfg0.N) (k : Fin 1024) : Fin 14336 := ⟨1024 * (t.val % 14) + k.val, by omega⟩

theorem block0 (t : Fin cfg0.N) (r : Fin 768) (k : Fin 1024) : iblk m c 0 t (ix2 r k) = arrX m c (ix2 (rowOf t r) (conOf t k)) := by
  rw [← V0]; unfold rowOf conOf
  blk_ext [iblk, idx t]

theorem block1 (t : Fin cfg0.N) (r : Fin 768) : iblk m c 1 t (ix2 r 0) = arrXs m c (ix2 (rowOf t r) 0) := by
  rw [← V1]; unfold rowOf
  blk_ext [iblk, idx t]

theorem block2 (t : Fin cfg0.N) (k : Fin 1024) (q : Fin 4096) : iblk m c 2 t (ix2 k q) = arrW m c (ix2 (conOf t k) q) := by
  rw [← V2]; unfold conOf
  blk_ext [iblk, idx t]

theorem block3 (t : Fin cfg0.N) (q : Fin 4096) : iblk m c 3 t (ix2 0 q) = arrWs m c (ix2 0 q) := by
  rw [← V3]
  blk_ext [iblk, idx t]

theorem block4 (t : Fin cfg0.N) (r : Fin 768) (q : Fin 4096) : iblk m c 4 t (ix2 r q) = arrR m c (ix2 (rowOf t r) q) := by
  rw [← V4]; unfold rowOf
  blk_ext [iblk, idx t]

/-! ## The carried sum -/

/-- The product of the activation at row `R` and the weight at column `q`, at contraction element `K`. -/
def term (R : Fin 1536) (q : Fin 4096) (K : ℕ) : EReal :=
  if h : K < 14336 then arrX m c (ix2 R ⟨K, h⟩) * arrW m c (ix2 ⟨K, h⟩ q) else 0

/-- A block product at an index. -/
theorem pay1_apply (v0 : Vec Ideal S768x1024 .fp8e4m3) (v2 : Vec Ideal S1024x4096 .fp8e4m3) (r : Fin 768) (q : Fin 4096) :
    k0_pay1 v0 v2 (ix2 r q) = ∑ k : Fin 1024, v0 (ix2 r k) * v2 (ix2 k q) := by
  unfold k0_pay1
  pointwise

theorem addf_at (x y : FVec Ideal S768x4096 .f32) (j : S768x4096.Idx) : addf x y j = x j + y j := rfl

/-- One block product is the sum of the products over the point's 1024 contraction elements. -/
theorem prod_apply (t : Fin cfg0.N) (r : Fin 768) (q : Fin 4096) :
    k0_pay1 (iblk m c 0 t : Vec Ideal S768x1024 .fp8e4m3) (iblk m c 2 t : Vec Ideal S1024x4096 .fp8e4m3) (ix2 r q)
      = ∑ k ∈ Finset.range 1024, term m c (rowOf t r) q (1024 * (t.val % 14) + k) := by
  rw [pay1_apply, Finset.sum_range]
  refine Finset.sum_congr rfl fun k _ => ?_
  have hk : 1024 * (t.val % 14) + k.val < 14336 := by omega
  unfold term
  rw [dif_pos hk]
  exact congrArg₂ (fun a b : EReal => a * b) (block0 m c t r k) (block2 m c t k q)

/-- After point `t`, not the last of its row block, the scratch holds the sum over the contraction elements so far. -/
theorem scratch_eq (n : ℕ) (hn : n < cfg0.N) (hl : n % 14 < 13) (r : Fin 768) (q : Fin 4096) :
    (outsAt0 m c n hn).2.2 (ix2 r q)
      = ∑ K ∈ Finset.range (1024 * (n % 14 + 1)), term m c (rowOf ⟨n, hn⟩ r) q K := by
  induction n with
  | zero =>
    rw [outsAt0_A m c ⟨0, hn⟩ (Nat.zero_mod _) (by show ¬ 1 ≤ 0 % 14; decide) (by show ¬ 0 % 14 = 13; decide)]
    dsimp only
    rw [scratch_A, prod_apply]
    simp
  | succ n ih =>
    by_cases h0 : (n + 1) % 14 = 0
    · rw [outsAt0_A m c ⟨n + 1, hn⟩ h0 (by show ¬ 1 ≤ (n + 1) % 14; omega) (by show ¬ (n + 1) % 14 = 13; omega)]
      dsimp only
      rw [scratch_A, prod_apply]
      simp [h0]
    · rw [outsAt0_B m c ⟨n + 1, hn⟩ h0 (by show 1 ≤ (n + 1) % 14; omega) (by show ¬ (n + 1) % 14 = 13; omega)]
      dsimp only
      rw [scratch_B]
      have hm : (n + 1) % 14 = n % 14 + 1 := by omega
      have hr : rowOf ⟨n, Nat.lt_of_succ_lt hn⟩ r = rowOf ⟨n + 1, hn⟩ r := Fin.ext (by
        show 768 * (n / 14) + r.val = 768 * ((n + 1) / 14) + r.val
        omega)
      have ih' := ih (Nat.lt_of_succ_lt hn) (by omega)
      refine (addf_at _ _ _).trans ((congrArg (· + _) ih').trans ?_)
      rw [prod_apply, hr, Nat.mul_add 1024 ((n + 1) % 14) 1, Nat.mul_one, Finset.sum_range_add, hm]

/-- At the last point of a row block what the scratch held plus the point's own product is the whole product. -/
theorem scratch_last (t : Fin cfg0.N) (hl : t.val % 14 = 13) (r : Fin 768) (q : Fin 4096) :
    addf (outsAt0 m c (t.val - 1) (Nat.lt_of_le_of_lt (Nat.sub_le _ _) t.isLt)).2.2
        (k0_pay1 (iblk m c 0 t : Vec Ideal S768x1024 .fp8e4m3) (iblk m c 2 t : Vec Ideal S1024x4096 .fp8e4m3)) (ix2 r q)
      = ∑ K : Fin 14336, arrX m c (ix2 (rowOf t r) K) * arrW m c (ix2 K q) := by
  have hr : rowOf ⟨t.val - 1, Nat.lt_of_le_of_lt (Nat.sub_le _ _) t.isLt⟩ r = rowOf t r := Fin.ext (by
    show 768 * ((t.val - 1) / 14) + r.val = 768 * (t.val / 14) + r.val
    omega)
  have hm : (t.val - 1) % 14 + 1 = 13 := by omega
  rw [addf_at]
  rw [scratch_eq m c (t.val - 1) _ (by omega), prod_apply, hr, hl, hm, ← Finset.sum_range_add]
  rw [Finset.sum_range]
  refine Finset.sum_congr rfl fun K _ => ?_
  unfold term
  rw [dif_pos K.isLt]

/-! ## The two results -/

/-- The value before quantising at row `R`, column `q`. -/
def valY (R : Fin 1536) (q : Fin 4096) : EReal :=
  (∑ K : Fin 14336, arrX m c (ix2 R K) * arrW m c (ix2 K q)) * arrXs m c (ix2 R 0) * arrWs m c (ix2 0 q) + arrR m c (ix2 R q)

/-- The scales. -/
def valS : S1536x1.Idx → EReal := fun i => kScale (amax (valY m c (i 0)))

/-- The codes. -/
def valC : S1536x4096.Idx → EReal := fun i => kCode (amax (valY m c (i 0))) (valY m c (i 0) (i 1))

/-- A block's value from the values of its parts. -/
theorem blockY_of (acc : S768x4096.Idx → EReal) (x1 : S768x1.Idx → EReal) (x3 : S1x4096.Idx → EReal) (x4 : S768x4096.Idx → EReal)
    (r : Fin 768) (q : Fin 4096) {a b c d : EReal} (ha : acc (ix2 r q) = a) (hb : x1 (ix2 r 0) = b) (hc : x3 (ix2 0 q) = c)
    (hd : x4 (ix2 r q) = d) : blockY acc x1 x3 x4 (ix2 r q) = a * b * c + d := by
  subst ha hb hc hd
  rfl

/-- At the last point of a row block the block's values are the array's. -/
theorem blockY_eq (t : Fin cfg0.N) (hl : t.val % 14 = 13) (r : Fin 768) (q : Fin 4096) :
    blockY (addf (outsAt0 m c (t.val - 1) (Nat.lt_of_le_of_lt (Nat.sub_le _ _) t.isLt)).2.2
        (k0_pay1 (iblk m c 0 t : Vec Ideal S768x1024 .fp8e4m3) (iblk m c 2 t : Vec Ideal S1024x4096 .fp8e4m3)))
      (iblk m c 1 t) (iblk m c 3 t) (iblk m c 4 t) (ix2 r q) = valY m c (rowOf t r) q := by
  exact blockY_of _ _ _ _ r q (scratch_last m c t hl r q) (block1 m c t r) (block3 m c t q) (block4 m c t r q)

/-- The last point of a row block, and where it sends row `r`. -/
theorem N_pos (R : Fin 1536) : 14 * (R.val / 768) + 13 < cfg0.N := lt_of_lt_of_eq (by omega) N_0.symm

theorem row_last (R : Fin 1536) : rowOf ⟨14 * (R.val / 768) + 13, N_pos R⟩ ⟨R.val % 768, Nat.mod_lt _ (by decide)⟩ = R :=
  Fin.ext (by simp only [rowOf]; omega)

/-- What the scale array ends holding. -/
theorem G5_eq : G5 m c = valS m c := by
  funext i
  have hi1 : (i 1).val = 0 := by have : (i 1).val < 1 := (i 1).isLt; omega
  have hp : pt5Of i = 14 * ((i 0).val / 768) + 13 := by
    show 14 * (1 * ((i 0).val / 768 - 0) + 1 * ((i 1).val / 1 - 0)) + 13 = _
    rw [hi1]; omega
  unfold G5
  have hN : pt5Of i < cfg0.N := hp ▸ N_pos (i 0)
  rw [dif_pos hN, ← outsAt0_sweep m c (pt5Of i) hN]
  have hl : pt5Of i % 14 = 13 := by omega
  rw [outsAt0_C m c ⟨pt5Of i, hN⟩ (by show ¬ pt5Of i % 14 = 0; omega) (by show 1 ≤ pt5Of i % 14; omega) hl]
  dsimp only
  rw [out_C_5]
  unfold blockS valS
  have hrow : rowOf ⟨pt5Of i, hN⟩ (loc5Of i 0) = i 0 := by
    refine Eq.trans (Fin.ext ?_) (row_last (i 0))
    show 768 * (pt5Of i / 14) + (i 0).val % 768 = 768 * ((14 * ((i 0).val / 768) + 13) / 14) + (i 0).val % 768
    rw [hp]
  refine congrArg kScale (congrArg amax (funext fun q => ?_))
  refine (blockY_eq m c ⟨pt5Of i, hN⟩ hl (loc5Of i 0) q).trans ?_
  rw [hrow]

/-- What the code array ends holding. -/
theorem G6_eq : G6 m c = valC m c := by
  funext i
  have hi1 : (i 1).val < 4096 := (i 1).isLt
  have hp : pt6Of i = 14 * ((i 0).val / 768) + 13 := by
    show 14 * (1 * ((i 0).val / 768 - 0) + 1 * ((i 1).val / 4096 - 0)) + 13 = _
    omega
  unfold G6
  have hN : pt6Of i < cfg0.N := hp ▸ N_pos (i 0)
  rw [dif_pos hN, ← outsAt0_sweep m c (pt6Of i) hN]
  have hl : pt6Of i % 14 = 13 := by omega
  rw [outsAt0_C m c ⟨pt6Of i, hN⟩ (by show ¬ pt6Of i % 14 = 0; omega) (by show 1 ≤ pt6Of i % 14; omega) hl]
  dsimp only
  rw [out_C_6]
  unfold blockC valC
  have hrow : rowOf ⟨pt6Of i, hN⟩ (loc6Of i 0) = i 0 := by
    refine Eq.trans (Fin.ext ?_) (row_last (i 0))
    show 768 * (pt6Of i / 14) + (i 0).val % 768 = 768 * ((14 * ((i 0).val / 768) + 13) / 14) + (i 0).val % 768
    rw [hp]
  have hcol : loc6Of i 1 = i 1 := Fin.ext (by show (i 1).val % 4096 = (i 1).val; omega)
  have hy : ∀ q : Fin 4096, blockY _ _ _ _ (ix2 (loc6Of i 0) q) = valY m c (i 0) q := fun q =>
    (blockY_eq m c ⟨pt6Of i, hN⟩ hl (loc6Of i 0) q).trans (by rw [hrow])
  refine congrArg₂ kCode (congrArg amax (funext hy)) ?_
  have hix : loc6Of i = ix2 (loc6Of i 0) (i 1) := by
    funext a
    fin_cases a
    · rfl
    · exact hcol
  rw [hix]
  exact hy (i 1)

end Cert.KernelIdeal.Hand

end
-- ==== Proof.RefPayload.lean ====
module

public import proofs.«01_k».proof.Proof.Quant
public import proofs.«01_k».proof.Proof.Gen.ReferenceIdeal.Value
public import Idealize.ShloMosaic.Lib.Pointwise

@[expose] public section

/-! What the reference computes at an index: the value before quantising, the exponent of its row, and the two results. -/

noncomputable section

open Idealize.ShloMosaic Idealize.ShloMosaic.TcCoe Idealize.SL.Sem

namespace Cert.ReferenceIdeal.Hand

open Cert.ReferenceIdeal Cert.ReferenceIdeal.Gen Cert.Quant

/-! ## The value before quantising -/

/-- The value at row `r`, column `q`: the product, the two scales, the residual. -/
theorem pay3_apply (v0 : Vec Ideal S1536x14336 .fp8e4m3) (v2 : Vec Ideal S14336x4096 .fp8e4m3) (v4 : Vec Ideal S1536x1 .f32)
    (v8 : Vec Ideal S1x4096 .f32) (v11 : Vec Ideal S1536x4096 .bf16) (r : Fin 1536) (q : Fin 4096) :
    k0_pay3 v0 v2 v4 v8 v11 (ix2 r q)
      = (∑ k : Fin 14336, v0 (ix2 r k) * v2 (ix2 k q)) * v4 (ix2 r 0) * v8 (ix2 0 q) + v11 (ix2 r q) := by
  unfold k0_pay3
  pointwise

/-! ## The exponent of a row -/

/-- The row maxima of the magnitudes of `y`, as the reference takes them. -/
def rowMax (y : FVec Ideal S1536x4096 .f32) : FVec Ideal S1536x1 .f32 :=
  shapeCast S1536x1 (multiReduction .maximumf [1] S1536 (absf y) 0xFF800000#32 reduces_S1536x4096_S1536 (.inl rfl) rfl)
    shapeCasts_S1536_S1536x1

theorem rowMax_apply (y : FVec Ideal S1536x4096 .f32) (j : S1536x1.Idx) : rowMax y j = amax fun q => y (ix2 (j 0) q) := by
  unfold rowMax
  pointwise
  rfl

/-- The exponents from the row maxima. -/
def expo (a : FVec Ideal S1536x1 .f32) : FVec Ideal S1536x1 .f32 :=
  let v := mulf a (broadcast S1536x1 (Scalar.ofBits .f32 0x3B124925#32))
  select (cmpf .oeq a (broadcast S1536x1 (Scalar.ofBits .f32 0x00000000#32))) (broadcast S1536x1 (Scalar.ofBits .f32 0x00000000#32))
    (select (ori (cmpf .olt v (broadcast S1536x1 (Scalar.ofBits .f32 0x00800000#32)))
        (cmpf .oeq v (broadcast S1536x1 (Scalar.ofBits .f32 0x7F800000#32))))
      (broadcast S1536x1 (Scalar.ofBits .f32 0x00000000#32))
      (addf (floor (divf (log v) (broadcast S1536x1 (Named.named κ "ln2" 0x3F317218#32))))
        (broadcast S1536x1 (Scalar.ofBits .f32 0x3F800000#32))))

theorem pay4_eq (v0 : Vec Ideal S1536x14336 .fp8e4m3) (v2 : Vec Ideal S14336x4096 .fp8e4m3) (v4 : Vec Ideal S1536x1 .f32)
    (v8 : Vec Ideal S1x4096 .f32) (v11 : Vec Ideal S1536x4096 .bf16) :
    k0_pay4 v0 v2 v4 v8 v11 = expo (rowMax (k0_pay3 v0 v2 v4 v8 v11)) := by
  unfold k0_pay4 expo rowMax
  generalize k0_pay3 v0 v2 v4 v8 v11 = y
  rfl

theorem expo_apply (a : FVec Ideal S1536x1 .f32) (j : S1536x1.Idx) : expo a j = rRow (a j) := by
  unfold expo rRow rExp
  rw [IdealRules.named_const.ideal_named_scalar κ "ln2" _ (Real.log 2) rfl]
  pointwise

/-! ## The two results -/

/-- The test that an exponent is below the normal range. -/
def below (e : FVec Ideal S1536x1 .f32) : IVec S1536x1 1 := cmpf .olt e (broadcast S1536x1 (Scalar.ofBits .f32 0xC2FC0000#32))

theorem below_apply (e : FVec Ideal S1536x1 .f32) (j : S1536x1.Idx) :
    below e j = BitVec.ofBool (decide (e j < Ideal.ofBits .f32 3271294976#32)) := rfl

theorem pay5_eq (v0 : Vec Ideal S1536x14336 .fp8e4m3) (v2 : Vec Ideal S14336x4096 .fp8e4m3) (v4 : Vec Ideal S1536x1 .f32)
    (v8 : Vec Ideal S1x4096 .f32) (v11 : Vec Ideal S1536x4096 .bf16) :
    k0_pay5 v0 v2 v4 v8 v11 = below (k0_pay4 v0 v2 v4 v8 v11) := by
  unfold k0_pay5
  exact rfl

/-- The scale from the exponent and its test. -/
theorem pay1_apply (e : FVec Ideal S1536x1 .f32) (j : S1536x1.Idx) : k0_pay1 e (below e) j = rPow (e j) := by
  have hb := below_apply e j
  revert hb
  generalize below e = b
  intro hb
  unfold k0_pay1 rPow
  pointwise
  rw [hb]
  by_cases h : e j < Ideal.ofBits .f32 3271294976#32 <;> simp [h, Scalar.select] <;> rfl

/-- The code from the value and the exponent. -/
theorem pay2_apply (y : FVec Ideal S1536x4096 .f32) (e : FVec Ideal S1536x1 .f32) (j : S1536x4096.Idx) :
    k0_pay2 y e j = min (Ideal.ofBits .f32 1138753536#32) (max (Ideal.ofBits .f32 3286237184#32) (y j * rPow (0 - e (ix2 (j 0) 0)))) := by
  unfold k0_pay2 rPow
  pointwise
  rfl

end Cert.ReferenceIdeal.Hand

end
-- ==== Proof.RefValue.lean ====
module

public import proofs.«01_k».proof.Proof.RefPayload
public import Idealize.ShloMosaic.Lib.Claim
public import Idealize.ShloMosaic.Lib.Pipeline.Value
public import Idealize.ShloMosaic.Lib.Pipeline.ValueKit

@[expose] public section

/-! What the reference's two arrays hold at the end. It runs in one piece: its blocks are the whole arrays. -/

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.ReferenceIdeal.Value Cert.Quant

variable (m : (ℓ : Loc nD τ sig) → Buf (Elt Ideal) ℓ) (ρ : Dev nD → PrngReg) (c : Dev nD)

theorem N_0 : cfg0.N = 1 := by decide +kernel

/-! ## The arrays -/

/-- The activations, 1536 rows of 14336. -/
def arrX : S1536x14336.Idx → EReal := shapeCast S1536x14336 (m ((c : Thread nD τ).loc main_arg0)) shapeCasts_S4x384x14336_S1536x14336
/-- The row scales. -/
def arrXs : S1536x1.Idx → EReal := shapeCast S1536x1 (m ((c : Thread nD τ).loc main_arg1)) shapeCasts_S4x384x1_S1536x1
/-- The weights, 14336 rows of 4096. -/
def arrW : S14336x4096.Idx → EReal := m ((c : Thread nD τ).loc main_arg2)
/-- The column scales. -/
def arrWs : S1x4096.Idx → EReal := m ((c : Thread nD τ).loc main_arg3)
/-- The residual. -/
def arrR : S1536x4096.Idx → EReal := shapeCast S1536x4096 (m ((c : Thread nD τ).loc main_arg4)) shapeCasts_S4x384x4096_S1536x4096

theorem V0 : V m c main_v0 = arrX m c := by entry_read; rfl
theorem V1 : V m c main_v1 = arrXs m c := by entry_read; rfl
theorem V2 : V m c main_arg2 = arrW m c := by entry_read; rfl
theorem V3 : V m c main_arg3 = arrWs m c := by entry_read; rfl
theorem V4 : V m c main_v2 = arrR m c := by entry_read; rfl

/-! ## The blocks -/

theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

theorem block0 (t : Fin cfg0.N) (r : Fin 1536) (k : Fin 14336) : iblk m c 0 t (ix2 r k) = arrX m c (ix2 r k) := by
  rw [← V0]
  blk_ext [iblk, idx t]

theorem block1 (t : Fin cfg0.N) (r : Fin 1536) : iblk m c 1 t (ix2 r 0) = arrXs m c (ix2 r 0) := by
  rw [← V1]
  blk_ext [iblk, idx t]

theorem block2 (t : Fin cfg0.N) (k : Fin 14336) (q : Fin 4096) : iblk m c 2 t (ix2 k q) = arrW m c (ix2 k q) := by
  rw [← V2]
  blk_ext [iblk, idx t]

theorem block3 (t : Fin cfg0.N) (q : Fin 4096) : iblk m c 3 t (ix2 0 q) = arrWs m c (ix2 0 q) := by
  rw [← V3]
  blk_ext [iblk, idx t]

theorem block4 (t : Fin cfg0.N) (r : Fin 1536) (q : Fin 4096) : iblk m c 4 t (ix2 r q) = arrR m c (ix2 r q) := by
  rw [← V4]
  blk_ext [iblk, idx t]

/-! ## The two results -/

/-- The value before quantising at row `R`, column `q`. -/
def valY (R : Fin 1536) (q : Fin 4096) : EReal :=
  (∑ K : Fin 14336, arrX m c (ix2 R K) * arrW m c (ix2 K q)) * arrXs m c (ix2 R 0) * arrWs m c (ix2 0 q) + arrR m c (ix2 R q)

/-- The scales. -/
def valS : S1536x1.Idx → EReal := fun i => rScale (amax (valY m c (i 0)))

/-- The codes. -/
def valC : S1536x4096.Idx → EReal := fun i => rCode (amax (valY m c (i 0))) (valY m c (i 0) (i 1))

/-- A value from the values of its parts. -/
theorem pay3_of (v0 : Vec Ideal S1536x14336 .fp8e4m3) (v2 : Vec Ideal S14336x4096 .fp8e4m3) (v4 : Vec Ideal S1536x1 .f32)
    (v8 : Vec Ideal S1x4096 .f32) (v11 : Vec Ideal S1536x4096 .bf16) (r : Fin 1536) (q : Fin 4096) {a b : Fin 14336 → EReal}
    {s u d : EReal} (ha : ∀ k, v0 (ix2 r k) = a k) (hb : ∀ k, v2 (ix2 k q) = b k) (hs : v4 (ix2 r 0) = s) (hu : v8 (ix2 0 q) = u)
    (hd : v11 (ix2 r q) = d) : k0_pay3 v0 v2 v4 v8 v11 (ix2 r q) = (∑ k, a k * b k) * s * u + d := by
  obtain rfl : (fun k => v0 (ix2 r k)) = a := funext ha
  obtain rfl : (fun k => v2 (ix2 k q)) = b := funext hb
  subst hs hu hd
  exact pay3_apply v0 v2 v4 v8 v11 r q

/-- The value before quantising, as the body computes it from its blocks. -/
theorem pay3_blk (t : Fin cfg0.N) (r : Fin 1536) (q : Fin 4096) :
    k0_pay3 (F := Ideal) (iblk m c 0 t) (iblk m c 2 t) (iblk m c 1 t) (iblk m c 3 t) (iblk m c 4 t) (ix2 r q) = valY m c r q :=
  pay3_of _ _ _ _ _ r q (block0 m c t r) (fun k => block2 m c t k q) (block1 m c t r) (block3 m c t q) (block4 m c t r q)

theorem hz : (![0, 0] : Fin 2 → Nat) = fun _ => 0 := by
  funext a
  fin_cases a <;> rfl

section Out

variable (x0 : Vec Ideal S1536x14336 .fp8e4m3) (x1 : Vec Ideal S1536x1 .f32) (x2 : Vec Ideal S14336x4096 .fp8e4m3)
  (x3 : Vec Ideal S1x4096 .f32) (x4 : Vec Ideal S1536x4096 .bf16)

/-- The exponents from the blocks. -/
theorem pay6_eq : k0_pay6 x0 x1 x2 x3 x4 = expo (rowMax (k0_pay3 x0 x2 x1 x3 x4)) := by
  unfold k0_pay6
  rw [View.ld_unit_zero hz, View.ld_unit_zero hz, View.ld_unit_zero hz, View.ld_unit_zero hz, View.ld_unit_zero hz, pay4_eq]

/-- The scales the body stores. -/
theorem out5_eq (j : S1536x1.Idx) :
    out0_5 x0 x1 x2 x3 x4 j = rScale (amax fun q => k0_pay3 x0 x2 x1 x3 x4 (ix2 (j 0) q)) := by
  unfold out0_5
  rw [View.canon_unit_zero hz, View.ld_unit_zero hz, View.ld_unit_zero hz, View.ld_unit_zero hz, View.ld_unit_zero hz,
    View.ld_unit_zero hz, pay5_eq, pay4_eq, pay6_eq, pay1_apply, expo_apply, rowMax_apply]
  rfl

/-- The codes the body stores. -/
theorem out6_eq (j : S1536x4096.Idx) :
    out0_6 x0 x1 x2 x3 x4 j
      = rCode (amax fun q => k0_pay3 x0 x2 x1 x3 x4 (ix2 (j 0) q)) (k0_pay3 x0 x2 x1 x3 x4 j) := by
  unfold out0_6
  rw [View.canon_unit_zero hz, View.ld_unit_zero hz, View.ld_unit_zero hz, View.ld_unit_zero hz, View.ld_unit_zero hz,
    View.ld_unit_zero hz, pay6_eq, pay2_apply, expo_apply, rowMax_apply]
  rfl

end Out

/-! ## The final arrays -/

theorem oidx : ∀ t : Fin cfg0.N, win0_5.index t = ![0, 0] ∧ win0_6.index t = ![0, 0] :=
  (by decide +kernel : ∀ t : Fin grid0.N, _)

/-- The point's block of the scale array is the whole array. -/
theorem readS (f : S1536x1.Idx → EReal) (t : Fin cfg0.N) (j : S1536x1.Idx) :
    ((cfg0.win 5).blk t).view.read (Elt Ideal) f j = f j := by
  blk_ext [oidx t]

/-- The point's block of the code array is the whole array. -/
theorem readC (f : S1536x4096.Idx → EReal) (t : Fin cfg0.N) (j : S1536x4096.Idx) :
    ((cfg0.win 6).blk t).view.read (Elt Ideal) f j = f j := by
  blk_ext [oidx t]

/-- What the point writes back to the scale array is the scales. -/
theorem flushedS (t : Fin cfg0.N) : (dats m 0 c).flushed 5 t = ((cfg0.win 5).blk t).view.read (Elt Ideal) (valS m c) := by
  rw [flushed5]
  funext j
  refine ((out5_eq _ _ _ _ _ j).trans ?_).trans (readS (valS m c) t j).symm
  exact congrArg rScale (congrArg amax (funext fun q => pay3_blk m c t (j 0) q))

/-- What the point writes back to the code array is the codes. -/
theorem flushedC (t : Fin cfg0.N) : (dats m 0 c).flushed 6 t = ((cfg0.win 6).blk t).view.read (Elt Ideal) (valC m c) := by
  rw [flushed6]
  funext j
  refine ((out6_eq _ _ _ _ _ j).trans ?_).trans (readC (valC m c) t j).symm
  have hix : j = ix2 (j 0) (j 1) := by
    funext a
    fin_cases a <;> rfl
  refine congrArg₂ rCode (congrArg amax (funext fun q => pay3_blk m c t (j 0) q)) ?_
  exact (congrArg (k0_pay3 (F := Ideal) _ _ _ _ _) hix).trans (pay3_blk m c t (j 0) (j 1))

theorem coverS (i : S1536x1.Idx) : ∃ t : Fin cfg0.N, (cfg0.win 5).flush t = true ∧ i ∈ ((cfg0.win 5).blk t).view.set := by
  let t0 : Fin cfg0.N := ⟨0, by rw [N_0]; decide⟩
  refine ⟨t0, (by decide +kernel : ∀ t : Fin cfg0.N, (cfg0.win 5).flush t = true) t0, ?_⟩
  show i ∈ ((View.whole main_v3_0).slice ((cfg0.win 5).rect t0)).set
  erw [View.set_slice_whole]
  refine (Pipeline.Window.mem_rect_iff (cfg0.win 5) t0 i (by rfl)).mpr fun a => ?_
  have e : ∀ (t : Fin cfg0.N) a, (cfg0.win 5).index t a * (cfg0.win 5).size a = 0
      ∧ (cfg0.win 5).xsize (cfg0.grid.coords t) a = S1536x1.size a := by
    decide +kernel
  rw [(e t0 a).1, (e t0 a).2, Nat.zero_add]
  exact ⟨Nat.zero_le _, (i a).isLt⟩

theorem coverC (i : S1536x4096.Idx) : ∃ t : Fin cfg0.N, (cfg0.win 6).flush t = true ∧ i ∈ ((cfg0.win 6).blk t).view.set := by
  let t0 : Fin cfg0.N := ⟨0, by rw [N_0]; decide⟩
  refine ⟨t0, (by decide +kernel : ∀ t : Fin cfg0.N, (cfg0.win 6).flush t = true) t0, ?_⟩
  show i ∈ ((View.whole main_v3_1).slice ((cfg0.win 6).rect t0)).set
  erw [View.set_slice_whole]
  refine (Pipeline.Window.mem_rect_iff (cfg0.win 6) t0 i (by rfl)).mpr fun a => ?_
  have e : ∀ (t : Fin cfg0.N) a, (cfg0.win 6).index t a * (cfg0.win 6).size a = 0
      ∧ (cfg0.win 6).xsize (cfg0.grid.coords t) a = S1536x4096.size a := by
    decide +kernel
  rw [(e t0 a).1, (e t0 a).2, Nat.zero_add]
  exact ⟨Nat.zero_le _, (i a).isLt⟩

theorem finalS : (dats m 0 c).arrAt 5 cfg0.N = valS m c :=
  (dats m 0 c).arrAt_eq_of_cover 5 (valS m c) (fun t _ => flushedS m c t) coverS

theorem finalC : (dats m 0 c).arrAt 6 cfg0.N = valC m c :=
  (dats m 0 c).arrAt_eq_of_cover 6 (valC m c) (fun t _ => flushedC m c t) coverC

/-- The reference's run: its two result arrays hold the scales and the codes, its arguments are as they were. -/
theorem run : θ_run defs (onTc (τ := τ) (main (F := Ideal))) ⟨m, fun _ => 0, ρ⟩ fun r => ∀ c : Dev nD,
      r.2.mem ((c : Thread nD τ).loc main_v3_0) = valS m c
      ∧ r.2.mem ((c : Thread nD τ).loc main_v3_1) = valC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (finalS m c), (h c).2.1.trans (finalC m c), (h c).2.2⟩) (run_blocks m ρ)

end Cert.ReferenceIdeal.Hand

end
-- ==== Proof.Equation.lean ====
module

public import proofs.«01_k».proof.Defs
public import proofs.«01_k».proof.Proof.KernelValue
public import proofs.«01_k».proof.Proof.RefValue

@[expose] public section

/-! The equation: from equal arguments the kernel's scales and codes are the reference's. -/

noncomputable section

open Idealize.ShloMosaic Idealize.ShloMosaic.TcCoe Idealize.SL.Sem

namespace Cert.Proof

open Cert.Quant

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs are started on the same five arguments. -/
def Agree : Prop :=
  m' ((c : Thread ReferenceIdeal.nD ReferenceIdeal.τ).loc ReferenceIdeal.main_arg0) = m ((c : Thread KernelIdeal.nD KernelIdeal.τ).loc KernelIdeal.main_arg0)
  ∧ m' ((c : Thread ReferenceIdeal.nD ReferenceIdeal.τ).loc ReferenceIdeal.main_arg1) = m ((c : Thread KernelIdeal.nD KernelIdeal.τ).loc KernelIdeal.main_arg1)
  ∧ m' ((c : Thread ReferenceIdeal.nD ReferenceIdeal.τ).loc ReferenceIdeal.main_arg2) = m ((c : Thread KernelIdeal.nD KernelIdeal.τ).loc KernelIdeal.main_arg2)
  ∧ m' ((c : Thread ReferenceIdeal.nD ReferenceIdeal.τ).loc ReferenceIdeal.main_arg3) = m ((c : Thread KernelIdeal.nD KernelIdeal.τ).loc KernelIdeal.main_arg3)
  ∧ m' ((c : Thread ReferenceIdeal.nD ReferenceIdeal.τ).loc ReferenceIdeal.main_arg4) = m ((c : Thread KernelIdeal.nD KernelIdeal.τ).loc KernelIdeal.main_arg4)

/-- The values before quantising are equal. -/
theorem valY_eq (h : Agree m m' c) : ReferenceIdeal.Hand.valY m' c = KernelIdeal.Hand.valY m c := by
  obtain ⟨h0, h1, h2, h3, h4⟩ := h
  have e0 : ReferenceIdeal.Hand.arrX m' c = KernelIdeal.Hand.arrX m c := by
    unfold ReferenceIdeal.Hand.arrX KernelIdeal.Hand.arrX; rw [h0]
  have e1 : ReferenceIdeal.Hand.arrXs m' c = KernelIdeal.Hand.arrXs m c := by
    unfold ReferenceIdeal.Hand.arrXs KernelIdeal.Hand.arrXs; rw [h1]
  have e4 : ReferenceIdeal.Hand.arrR m' c = KernelIdeal.Hand.arrR m c := by
    unfold ReferenceIdeal.Hand.arrR KernelIdeal.Hand.arrR; rw [h4]
  have e2 : ReferenceIdeal.Hand.arrW m' c = KernelIdeal.Hand.arrW m c := h2
  have e3 : ReferenceIdeal.Hand.arrWs m' c = KernelIdeal.Hand.arrWs m c := h3
  unfold ReferenceIdeal.Hand.valY KernelIdeal.Hand.valY
  rw [e0, e1, e2, e3, e4]

/-- The scales are equal. -/
theorem valS_eq (h : Agree m m' c) : ReferenceIdeal.Hand.valS m' c = KernelIdeal.Hand.valS m c := by
  unfold ReferenceIdeal.Hand.valS KernelIdeal.Hand.valS
  rw [valY_eq m m' c h]
  exact funext fun i => (kScale_eq _).symm

/-- The codes are equal. -/
theorem valC_eq (h : Agree m m' c) : ReferenceIdeal.Hand.valC m' c = KernelIdeal.Hand.valC m c := by
  unfold ReferenceIdeal.Hand.valC KernelIdeal.Hand.valC
  rw [valY_eq m m' c h]
  exact funext fun i => (kCode_eq _ _).symm

/-- The idealized kernel and the idealized reference end with the same scales and the same codes. -/
theorem algebraic : algebraic_KernelIdeal_ReferenceIdeal (hKernelIdeal := KernelIdeal.Gen.facts) (hReferenceIdeal := ReferenceIdeal.Gen.facts) := by
  intro m g m' g' _ hagree
  refine ⟨fun c => KernelIdeal.Hand.valS m c, fun c => KernelIdeal.Hand.valC m c, ?_, ?_⟩
  · exact (θ_run KernelIdeal.defs _ _).mono
      (fun _ h c => ⟨(h c).1.trans (KernelIdeal.Hand.G5_eq m c), (h c).2.1.trans (KernelIdeal.Hand.G6_eq m c), (h c).2.2⟩)
      (KernelIdeal.Value.run m g)
  · exact (θ_run ReferenceIdeal.defs _ _).mono
      (fun _ h c => ⟨(h c).1.trans (valS_eq m m' c (hagree c)), (h c).2.1.trans (valC_eq m m' c (hagree c)), (h c).2.2⟩)
      (ReferenceIdeal.Hand.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
